-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1x16x256x64 : Shape := ⟨4, ![1, 16, 256, 64]⟩
abbrev S1024 : Shape := ⟨1, ![1024]⟩
abbrev S_ : Shape := ⟨0, ![]⟩
abbrev S1x1024 : Shape := ⟨2, ![1, 1024]⟩
abbrev S1 : Shape := ⟨1, ![1]⟩
abbrev S16x256x64 : Shape := ⟨3, ![16, 256, 64]⟩
abbrev S1x1 : Shape := ⟨2, ![1, 1]⟩
abbrev S16x256x65 : Shape := ⟨3, ![16, 256, 65]⟩
abbrev S1024x16 : Shape := ⟨2, ![1024, 16]⟩
abbrev S16x256 : Shape := ⟨2, ![16, 256]⟩
abbrev S16x256x1 : Shape := ⟨3, ![16, 256, 1]⟩
abbrev S1024x1 : Shape := ⟨2, ![1024, 1]⟩
abbrev S1024x64 : Shape := ⟨2, ![1024, 64]⟩
abbrev S1x256x64 : Shape := ⟨3, ![1, 256, 64]⟩
abbrev S256x64 : Shape := ⟨2, ![256, 64]⟩
abbrev S1024x256 : Shape := ⟨2, ![1024, 256]⟩
abbrev S1x256x65 : Shape := ⟨3, ![1, 256, 65]⟩
abbrev S256x65 : Shape := ⟨2, ![256, 65]⟩
abbrev S1024x65 : Shape := ⟨2, ![1024, 65]⟩

abbrev nBuf : Space → Nat
  | .hbm => 28
  | .vmem => 27
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x16x256x64, .f32⟩
  | .hbm, ⟨3, _⟩ => ⟨S1x16x256x64, .f32⟩
  | .hbm, ⟨4, _⟩ => ⟨S1x16x256x64, .f32⟩
  | .hbm, ⟨5, _⟩ => ⟨S1x16x256x64, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S_, .f32⟩
  | .hbm, ⟨11, _⟩ => ⟨S1024x1024, .f32⟩
  | .hbm, ⟨12, _⟩ => ⟨S1024, .f32⟩
  | .hbm, ⟨13, _⟩ => ⟨S1x1024, .f32⟩
  | .hbm, ⟨14, _⟩ => ⟨S1, .f32⟩
  | .hbm, ⟨15, _⟩ => ⟨S1024x1024, .f32⟩
  | .hbm, ⟨16, _⟩ => ⟨S1024, .f32⟩
  | .hbm, ⟨17, _⟩ => ⟨S16x256x64, .f32⟩
  | .hbm, ⟨18, _⟩ => ⟨S16x256x64, .f32⟩
  | .hbm, ⟨19, _⟩ => ⟨S16x256x64, .f32⟩
  | .hbm, ⟨20, _⟩ => ⟨S16x256x64, .f32⟩
  | .hbm, ⟨21, _⟩ => ⟨S1x1024, .f32⟩
  | .hbm, ⟨22, _⟩ => ⟨S1x1024, .f32⟩
  | .hbm, ⟨23, _⟩ => ⟨S1x1, .f32⟩
  | .hbm, ⟨24, _⟩ => ⟨S1x1024, .f32⟩
  | .hbm, ⟨25, _⟩ => ⟨S1x1, .f32⟩
  | .hbm, ⟨26, _⟩ => ⟨S1x1024, .f32⟩
  | .hbm, ⟨27, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S16x256x64, .f32⟩
  | .local _ .vmem, ⟨3, _⟩ => ⟨S16x256x64, .f32⟩
  | .local _ .vmem, ⟨4, _⟩ => ⟨S16x256x64, .f32⟩
  | .local _ .vmem, ⟨5, _⟩ => ⟨S16x256x64, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1x1024, .f32⟩
  | .local _ .vmem, ⟨10, _⟩ => ⟨S1x1024, .f32⟩
  | .local _ .vmem, ⟨11, _⟩ => ⟨S1x1, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S16x256x64, .bf16⟩
  | .local _ .vmem, ⟨23, _⟩ => ⟨S16x256x64, .bf16⟩
  | .local _ .vmem, ⟨24, _⟩ => ⟨S16x256x65, .bf16⟩
  | .local _ .vmem, ⟨25, _⟩ => ⟨S16x256x65, .bf16⟩
  | .local _ .vmem, ⟨26, _⟩ => ⟨S1024x16, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== ReferenceIdeal.lean ====
abbrev S1024x1024 : Shape := ⟨2, ![1024, 1024]⟩
abbrev S1x16x256x64 : Shape := ⟨4, ![1, 16, 256, 64]⟩
abbrev S1024 : Shape := ⟨1, ![1024]⟩
abbrev S_ : Shape := ⟨0, ![]⟩
abbrev S1x1024 : Shape := ⟨2, ![1, 1024]⟩
abbrev S1 : Shape := ⟨1, ![1]⟩
abbrev S1024x16x64 : Shape := ⟨3, ![1024, 16, 64]⟩
abbrev S1024x16 : Shape := ⟨2, ![1024, 16]⟩
abbrev S1024x16x1 : Shape := ⟨3, ![1024, 16, 1]⟩
abbrev S16x256x64 : Shape := ⟨3, ![16, 256, 64]⟩
abbrev S16x256 : Shape := ⟨2, ![16, 256]⟩
abbrev S16x256x1 : Shape := ⟨3, ![16, 256, 1]⟩
abbrev S16x256x1024 : Shape := ⟨3, ![16, 256, 1024]⟩
abbrev S1024x16x256 : Shape := ⟨3, ![1024, 16, 256]⟩
abbrev S16x64x1024 : Shape := ⟨3, ![16, 64, 1024]⟩
abbrev S1024x1 : Shape := ⟨2, ![1024, 1]⟩
abbrev S1x1 : Shape := ⟨2, ![1, 1]⟩

abbrev nBuf : Space → Nat
  | .hbm => 159
  | .vmem => 0
  | .smem => 0
  | _ => 0

abbrev hbmTy0_0 (i : Nat) : BufTy := match i % 128 with
  | 0 => ⟨S1024x1024, .f32⟩
  | 1 => ⟨S1024x1024, .f32⟩
  | 2 => ⟨S1x16x256x64, .f32⟩
  | 3 => ⟨S1x16x256x64, .f32⟩
  | 4 => ⟨S1x16x256x64, .f32⟩
  | 5 => ⟨S1x16x256x64, .f32⟩
  | 6 => ⟨S1024x1024, .f32⟩
  | 7 => ⟨S1024, .f32⟩
  | 8 => ⟨S1024x1024, .f32⟩
  | 9 => ⟨S1024, .f32⟩
  | 10 => ⟨S_, .f32⟩
  | 11 => ⟨S1024x1024, .f32⟩
  | 12 => ⟨S1024, .f32⟩
  | 13 => ⟨S1x1024, .f32⟩
  | 14 => ⟨S1, .f32⟩
  | 15 => ⟨S1024x1024, .f32⟩
  | 16 => ⟨S1024, .f32⟩
  | 17 => ⟨S1024x1024, .f32⟩
  | 18 => ⟨S1024x1024, .f32⟩
  | 19 => ⟨S1x1024, .f32⟩
  | 20 => ⟨S1024x1024, .f32⟩
  | 21 => ⟨S1024x1024, .f32⟩
  | 22 => ⟨S1024x16x64, .f32⟩
  | 23 => ⟨S1024x16x64, .f32⟩
  | 24 => ⟨S_, .f32⟩
  | 25 => ⟨S1024x16, .f32⟩
  | 26 => ⟨S1024x16x1, .f32⟩
  | 27 => ⟨S1024x16x1, .f32⟩
  | 28 => ⟨S_, .f32⟩
  | 29 => ⟨S1024x16x1, .f32⟩
  | 30 => ⟨S1024x16x1, .f32⟩
  | 31 => ⟨S1024x16x64, .f32⟩
  | 32 => ⟨S1024x16x64, .f32⟩
  | 33 => ⟨S16x256x64, .f32⟩
  | 34 => ⟨S16x256x64, .f32⟩
  | 35 => ⟨S16x256x64, .f32⟩
  | 36 => ⟨S_, .f32⟩
  | 37 => ⟨S16x256, .f32⟩
  | 38 => ⟨S16x256x1, .f32⟩
  | 39 => ⟨S16x256x1, .f32⟩
  | 40 => ⟨S_, .f32⟩
  | 41 => ⟨S16x256x1, .f32⟩
  | 42 => ⟨S16x256x1, .f32⟩
  | 43 => ⟨S16x256x64, .f32⟩
  | 44 => ⟨S16x256x64, .f32⟩
  | 45 => ⟨S16x256x64, .f32⟩
  | 46 => ⟨S16x256x64, .f32⟩
  | 47 => ⟨S16x256x64, .f32⟩
  | 48 => ⟨S_, .f32⟩
  | 49 => ⟨S16x256, .f32⟩
  | 50 => ⟨S16x256x1, .f32⟩
  | 51 => ⟨S16x256x1, .f32⟩
  | 52 => ⟨S_, .f32⟩
  | 53 => ⟨S16x256x1, .f32⟩
  | 54 => ⟨S16x256x1, .f32⟩
  | 55 => ⟨S16x256x64, .f32⟩
  | 56 => ⟨S16x256x64, .f32⟩
  | 57 => ⟨S16x256x1024, .f32⟩
  | 58 => ⟨S1024x16x256, .f32⟩
  | 59 => ⟨S16x256x1024, .f32⟩
  | 60 => ⟨S1024x16x256, .f32⟩
  | 61 => ⟨S_, .f32⟩
  | 62 => ⟨S1024x16x256, .f32⟩
  | 63 => ⟨S1024x16x256, .f32⟩
  | 64 => ⟨S_, .f32⟩
  | 65 => ⟨S1024x16, .f32⟩
  | 66 => ⟨S_, .f32⟩
  | 67 => ⟨S1024x16, .f32⟩
  | 68 => ⟨S1024x16, .f32⟩
  | 69 => ⟨S1024x16x1, .f32⟩
  | 70 => ⟨S1024x16x256, .f32⟩
  | 71 => ⟨S1024x16x256, .f32⟩
  | 72 => ⟨S1024x16x256, .f32⟩
  | 73 => ⟨S_, .f32⟩
  | 74 => ⟨S1024x16, .f32⟩
  | 75 => ⟨S1024x16x1, .f32⟩
  | 76 => ⟨S1024x16x256, .f32⟩
  | 77 => ⟨S1024x16x256, .f32⟩
  | 78 => ⟨S_, .f32⟩
  | 79 => ⟨S1024x16x256, .f32⟩
  | 80 => ⟨S1024x16x256, .f32⟩
  | 81 => ⟨S_, .f32⟩
  | 82 => ⟨S1024x16, .f32⟩
  | 83 => ⟨S_, .f32⟩
  | 84 => ⟨S1024x16, .f32⟩
  | 85 => ⟨S1024x16, .f32⟩
  | 86 => ⟨S1024x16x1, .f32⟩
  | 87 => ⟨S1024x16x256, .f32⟩
  | 88 => ⟨S1024x16x256, .f32⟩
  | 89 => ⟨S1024x16x256, .f32⟩
  | 90 => ⟨S_, .f32⟩
  | 91 => ⟨S1024x16, .f32⟩
  | 92 => ⟨S1024x16x1, .f32⟩
  | 93 => ⟨S1024x16x256, .f32⟩
  | 94 => ⟨S1024x16x256, .f32⟩
  | 95 => ⟨S16x256x64, .f32⟩
  | 96 => ⟨S16x64x1024, .f32⟩
  | 97 => ⟨S1024x16x64, .f32⟩
  | 98 => ⟨S1024x1024, .f32⟩
  | 99 => ⟨S16x256x64, .f32⟩
  | 100 => ⟨S16x64x1024, .f32⟩
  | 101 => ⟨S1024x16x64, .f32⟩
  | 102 => ⟨S1024x1024, .f32⟩
  | 103 => ⟨S1024x1024, .f32⟩
  | 104 => ⟨S1024x1024, .f32⟩
  | 105 => ⟨S1x1024, .f32⟩
  | 106 => ⟨S1024x1024, .f32⟩
  | 107 => ⟨S1024x1024, .f32⟩
  | 108 => ⟨S1024x1024, .f32⟩
  | 109 => ⟨S_, .f32⟩
  | 110 => ⟨S1024, .f32⟩
  | 111 => ⟨S1024x1, .f32⟩
  | 112 => ⟨S_, .f32⟩
  | 113 => ⟨S1024x1, .f32⟩
  | 114 => ⟨S1024x1, .f32⟩
  | 115 => ⟨S1024x1, .f32⟩
  | 116 => ⟨S1024x1, .f32⟩
  | 117 => ⟨S1024x1, .f32⟩
  | 118 => ⟨S1024x1, .f32⟩
  | 119 => ⟨S_, .f32⟩
  | 120 => ⟨S1024x1, .f32⟩
  | 121 => ⟨S1024x1, .f32⟩
  | 122 => ⟨S_, .f32⟩
  | 123 => ⟨S1024x1, .f32⟩
  | 124 => ⟨S1024x1, .f32⟩
  | 125 => ⟨S1024x1024, .f32⟩
  | 126 => ⟨S1024x1024, .f32⟩
  | 127 => ⟨S_, .f32⟩
  | _ => ⟨S1024x1024, .f32⟩

abbrev hbmTy0_1 (i : Nat) : BufTy := match i % 128 with
  | 0 => ⟨S1024x1, .f32⟩
  | 1 => ⟨S1024x1, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S1x1024, .f32⟩
  | 8 => ⟨S1024x1024, .f32⟩
  | 9 => ⟨S1024x1024, .f32⟩
  | 10 => ⟨S1024x1024, .f32⟩
  | 11 => ⟨S1024x1, .f32⟩
  | 12 => ⟨S1024x1, .f32⟩
  | 13 => ⟨S1x1, .f32⟩
  | 14 => ⟨S1024x1, .f32⟩
  | 15 => ⟨S1024x1, .f32⟩
  | 16 => ⟨S1024x1, .f32⟩
  | 17 => ⟨S1024x1, .f32⟩
  | 18 => ⟨S_, .f32⟩
  | 19 => ⟨S1024x1, .f32⟩
  | 20 => ⟨S1024x1, .f32⟩
  | 21 => ⟨S_, .f32⟩
  | 22 => ⟨S1024x1, .f32⟩
  | 23 => ⟨S1024x1, .f32⟩
  | 24 => ⟨S1024x1024, .f32⟩
  | 25 => ⟨S1024x1024, .f32⟩
  | 26 => ⟨S1024x1024, .f32⟩
  | 27 => ⟨S1024x1024, .f32⟩
  | 28 => ⟨S1x1024, .f32⟩
  | 29 => ⟨S1024x1024, .f32⟩
  | 30 => ⟨S1024x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_call1_v2 : Ref sig .tc := ⟨.hbm, 38, rfl⟩
abbrev main_v13 : Ref sig .tc := ⟨.hbm, 39, rfl⟩
abbrev main_cst_0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call2_v0 : Ref sig .tc := ⟨.hbm, 47, rfl⟩
abbrev main_call2_cst : Ref sig .tc := ⟨.hbm, 48, rfl⟩
abbrev main_call2_v1 : Ref sig .tc := ⟨.hbm, 49, rfl⟩
abbrev main_call2_v2 : Ref sig .tc := ⟨.hbm, 50, rfl⟩
abbrev main_v20 : Ref sig .tc := ⟨.hbm, 51, rfl⟩
abbrev main_cst_1 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_2 : Ref sig .tc := ⟨.hbm, 61, rfl⟩
abbrev main_v29 : Ref sig .tc := ⟨.hbm, 62, rfl⟩
abbrev main_v30 : Ref sig .tc := ⟨.hbm, 63, rfl⟩
abbrev main_cst_3 : Ref sig .tc := ⟨.hbm, 64, rfl⟩
abbrev main_v31 : Ref sig .tc := ⟨.hbm, 65, rfl⟩
abbrev main_cst_4 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_5 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_6 : Ref sig .tc := ⟨.hbm, 78, rfl⟩
abbrev main_v42 : Ref sig .tc := ⟨.hbm, 79, rfl⟩
abbrev main_v43 : Ref sig .tc := ⟨.hbm, 80, rfl⟩
abbrev main_cst_7 : Ref sig .tc := ⟨.hbm, 81, rfl⟩
abbrev main_v44 : Ref sig .tc := ⟨.hbm, 82, rfl⟩
abbrev main_cst_8 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_9 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_10 : Ref sig .tc := ⟨.hbm, 109, rfl⟩
abbrev main_v69 : Ref sig .tc := ⟨.hbm, 110, rfl⟩
abbrev main_v70 : Ref sig .tc := ⟨.hbm, 111, rfl⟩
abbrev main_cst_11 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_12 : Ref sig .tc := ⟨.hbm, 119, rfl⟩
abbrev main_v77 : Ref sig .tc := ⟨.hbm, 120, rfl⟩
abbrev main_v78 : Ref sig .tc := ⟨.hbm, 121, rfl⟩
abbrev main_cst_13 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_14 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_15 : Ref sig .tc := ⟨.hbm, 146, rfl⟩
abbrev main_v101 : Ref sig .tc := ⟨.hbm, 147, rfl⟩
abbrev main_v102 : Ref sig .tc := ⟨.hbm, 148, rfl⟩
abbrev main_cst_16 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩

abbrev nD : Nat := 1
abbrev τ : Topo := Topo.v7x

variable {F : FTy → Type} [FloatOps F]
-- ==== Proof.Scalar.lean ====
/- Facts about extended reals that the value claim needs: the norm of a vector, the logistic function,
   and a softmax-weighted mean whose maximum is not subtracted. -/
module

public import Idealize.ShloMosaic.PureOps.Ideal
public import Idealize.ShloMosaic.Lib.IdealHost

@[expose] public section

noncomputable section

namespace Cert.Memory

open Idealize.ShloMosaic

/-- The small constant that keeps a norm away from zero, as a float word read over the extended reals. -/
def eps : EReal := Ideal.ofBits .f32 0x322BCC77#32

/-- The small constant is a positive real. -/
theorem eps_pos : ∃ e : ℝ, 0 < e ∧ eps = (e : EReal) := by
  refine ⟨(2 ^ 23 + 2870391 : ℕ) * (2 : ℝ) ^ (-50 : Int), by positivity, ?_⟩
  simp [eps, Ideal.ofBits, Ideal.ieee]

/-- The float word of negative infinity is `⊥`. -/
theorem ofBits_neg_inf : Ideal.ofBits .f32 0xFF800000#32 = ⊥ := by simp [Ideal.ofBits, Ideal.ieee]

/-- The square root of `⊤`. -/
theorem sqrt_top' : Ideal.sqrt ⊤ = ⊤ := rfl

/-- The square root of a real that is not negative. -/
theorem sqrt_coe' {r : ℝ} (h : 0 ≤ r) : Ideal.sqrt (r : EReal) = (Real.sqrt r : EReal) :=
  if_neg (not_lt.mpr h)

/-- The reciprocal of a norm that is padded by the small constant. -/
def invNorm {n : ℕ} (x : Fin n → EReal) : EReal := Ideal.div 1 (Ideal.sqrt (∑ k, x k * x k) + eps)

/-- A square is not negative. -/
theorem sq_nonneg' (x : EReal) : 0 ≤ x * x := by
  induction x with
  | bot => simp
  | top => simp
  | coe r => exact_mod_cast mul_self_nonneg r

/-- A sum of squares with an infinite term is infinite. -/
theorem sum_sq_top {n : ℕ} (x : Fin n → EReal) (k : Fin n) (h : x k = ⊥ ∨ x k = ⊤) : (∑ k, x k * x k) = ⊤ := by
  have h1 : x k * x k = ⊤ := by rcases h with h | h <;> simp [h]
  have h2 : x k * x k ≤ ∑ k, x k * x k :=
    Finset.single_le_sum (f := fun k => x k * x k) (fun i _ => sq_nonneg' (x i)) (Finset.mem_univ k)
  rw [h1] at h2
  exact top_le_iff.mp h2

/-- The padded norm is a positive real or `⊤`. -/
theorem norm_cases {n : ℕ} (x : Fin n → EReal) :
    (∃ d : ℝ, 0 < d ∧ Ideal.sqrt (∑ k, x k * x k) + eps = (d : EReal)) ∨ Ideal.sqrt (∑ k, x k * x k) + eps = ⊤ := by
  obtain ⟨e, he, heq⟩ := eps_pos
  have h0 : 0 ≤ ∑ k, x k * x k := Finset.sum_nonneg fun i _ => sq_nonneg' (x i)
  generalize (∑ k, x k * x k) = s at h0
  rw [heq]
  induction s with
  | bot => simp at h0
  | top => right; rw [sqrt_top', EReal.top_add_coe]
  | coe r =>
    left
    have hr : 0 ≤ r := by exact_mod_cast h0
    refine ⟨Real.sqrt r + e, by positivity, ?_⟩
    rw [sqrt_coe' hr, EReal.coe_add]

/-- Dividing by the padded norm is multiplying by its reciprocal. -/
theorem div_norm {n : ℕ} (x : Fin n → EReal) (a : EReal) :
    Ideal.div a (Ideal.sqrt (∑ k, x k * x k) + eps) = a * invNorm x := by
  have h : Ideal.sqrt (∑ k, x k * x k) + eps ≠ 0 := by
    rcases norm_cases x with ⟨d, hd, h⟩ | h <;> rw [h]
    · exact_mod_cast hd.ne'
    · simp
  simp only [invNorm, Ideal.div, if_neg h, one_mul]

/-- An entry of a vector over the vector's padded norm is a real, also where the entry is infinite. -/
theorem normalized_real {n : ℕ} (x : Fin n → EReal) (k : Fin n) : ∃ r : ℝ, x k * invNorm x = (r : EReal) := by
  have key : ∀ y : EReal, y = x k → ∃ r : ℝ, y * invNorm x = (r : EReal) := by
    intro y hy
    have htop : (y = ⊥ ∨ y = ⊤) → invNorm x = 0 := by
      intro h
      obtain ⟨e, he, heq⟩ := eps_pos
      rw [invNorm, sum_sq_top x k (hy ▸ h), heq, sqrt_top', EReal.top_add_coe]
      simp [Ideal.div]
    induction y with
    | bot => exact ⟨0, by rw [htop (.inl rfl)]; simp⟩
    | top => exact ⟨0, by rw [htop (.inr rfl)]; simp⟩
    | coe r =>
      rcases norm_cases x with ⟨d, hd, h⟩ | h
      · refine ⟨r * (1 / d), ?_⟩
        rw [invNorm, h, Ideal.div_coe hd.ne', one_mul, EReal.coe_mul]
      · exact ⟨0, by rw [invNorm, h]; simp [Ideal.div]⟩
  exact key _ rfl

/-- The logistic function has its values in the unit interval. -/
theorem logistic_unit (x : EReal) : ∃ r : ℝ, 0 ≤ r ∧ r ≤ 1 ∧ Ideal.logistic x = (r : EReal) := by
  induction x with
  | bot => exact ⟨0, le_rfl, zero_le_one, by
      have h : (1 : EReal) + Ideal.exp (-⊥) = ⊤ := by
        rw [EReal.neg_bot, Ideal.exp_top]; exact EReal.coe_add_top 1
      rw [Ideal.logistic, h]; simp [Ideal.div]⟩
  | top => exact ⟨1, zero_le_one, le_rfl, by simp [Ideal.logistic, Ideal.div]⟩
  | coe r =>
    have hp : 0 < 1 + Real.exp (-r) := by positivity
    refine ⟨1 / (1 + Real.exp (-r)), by positivity, ?_, ?_⟩
    · rw [div_le_one hp]; linarith [Real.exp_pos (-r)]
    · have h : (1 : EReal) + Ideal.exp (-(r : EReal)) = ((1 + Real.exp (-r) : ℝ) : EReal) := by
        rw [← EReal.coe_neg, Ideal.exp_coe]; simp
      rw [Ideal.logistic, h, Ideal.div_coe hp.ne', one_mul]

/-- A real that is not negative distributes over a finite sum of extended reals. -/
theorem coe_mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of `⊥` and finitely many reals, of which there is at least one, is a real. -/
theorem fold_max_real {n : ℕ} (hn : 0 < n) (s : Fin n → ℝ) :
    ∃ M : ℝ, (Finset.univ : Finset (Fin n)).fold max (⊥ : EReal) (fun i => (s i : EReal)) = (M : EReal) := by
  classical
  have key : ∀ t : Finset (Fin n), t.fold max (⊥ : EReal) (fun i => (s i : EReal)) = ⊥ ∧ t = ∅
      ∨ ∃ M : ℝ, t.fold max (⊥ : EReal) (fun i => (s i : EReal)) = (M : EReal) := by
    intro t
    induction t using Finset.induction_on with
    | empty => left; simp
    | insert a t ha ih =>
      right
      rw [Finset.fold_insert ha]
      rcases ih with ⟨h, -⟩ | ⟨M, h⟩
      · exact ⟨s a, by rw [h]; simp⟩
      · exact ⟨max (s a) M, by rw [h]; exact (EReal.coe_strictMono.monotone.map_max).symm⟩
  rcases key Finset.univ with ⟨-, h⟩ | h
  · exact absurd h (Finset.univ_nonempty_iff.mpr ⟨⟨0, hn⟩⟩).ne_empty
  · exact h

/-- The softmax-weighted mean with the maximum subtracted, at real scores, is the plain exponential sum over the
    plain normalizer. -/
theorem softmax_mean {n : ℕ} (hn : 0 < n) (s : Fin n → ℝ) (v : Fin n → EReal) (M : ℝ) :
    (∑ i, v i * Ideal.div (Ideal.exp ((s i : EReal) - (M : EReal))) (∑ j, Ideal.exp ((s j : EReal) - (M : EReal))))
      = ((1 / ∑ j, Real.exp (s j) : ℝ) : EReal) * ∑ i, Ideal.exp (s i : EReal) * v i := by
  haveI : Nonempty (Fin n) := ⟨⟨0, hn⟩⟩
  have hZ : 0 < ∑ j, Real.exp (s j) := Finset.sum_pos (fun i _ => Real.exp_pos _) Finset.univ_nonempty
  have hZ' : 0 < ∑ j, Real.exp (s j - M) := Finset.sum_pos (fun i _ => Real.exp_pos _) Finset.univ_nonempty
  have hexp : ∀ i, Ideal.exp ((s i : EReal) - (M : EReal)) = ((Real.exp (s i - M) : ℝ) : EReal) := fun i => by
    rw [← EReal.coe_sub, Ideal.exp_coe]
  have hsum : (∑ j, Real.exp (s j - M)) = (∑ j, Real.exp (s j)) * Real.exp (-M) := by
    rw [Finset.sum_mul]; exact Finset.sum_congr rfl fun j _ => by rw [← Real.exp_add]; rfl
  rw [coe_mul_sum _ (by positivity)]
  refine Finset.sum_congr rfl fun i _ => ?_
  simp only [hexp]
  rw [← coe_sum, Ideal.div_coe hZ'.ne', Ideal.exp_coe, ← EReal.coe_mul, ← mul_assoc, ← EReal.coe_mul, mul_comm (v i)]
  congr 2
  rw [hsum, show s i - M = s i + -M from rfl, Real.exp_add]
  have := (Real.exp_pos (-M)).ne'
  field_simp

/-- The normalizer of plain exponentials at real scores. -/
theorem sum_exp {n : ℕ} (s : Fin n → ℝ) :
    (∑ j, Ideal.exp (s j : EReal)) = ((∑ j, Real.exp (s j) : ℝ) : EReal) := by
  rw [coe_sum]; rfl

end Cert.Memory

end
-- ==== Proof.Heads.lean ====
/- What the kernel's body computes, over the contents of its operands: the heads as one function of the head's number,
   and each intermediate array read at an index. -/
module

public import proofs.«01_k».proof.Proof.Gen.KernelIdeal.Skeleton
public import proofs.«01_k».proof.Proof.Scalar
public import Idealize.ShloMosaic.Lib.Pointwise

@[expose] public section

set_option maxRecDepth 16384

noncomputable section

namespace Cert.KernelIdeal.Body

open Cert.KernelIdeal Cert.KernelIdeal.Gen Cert.Memory
open Idealize.ShloMosaic Idealize.ShloMosaic.TcCoe Idealize.SL.Sem

/-- One head of a stack of 16 matrices. -/
def slab {w : ℕ} (h : Fin 16) (Z : FVec Ideal ⟨3, ![16, 256, w]⟩ .bf16) : FVec Ideal ⟨3, ![1, 256, w]⟩ .bf16 :=
  fun j => Z (ix3 h (j 1) (j 2))

/-- Where the columns of a head lie. -/
theorem slices_head (h : Fin 16) : S1024x1024.Slices ![0, h.val * 64] S1024x64 := by
  revert h
  decide

/-- The 64 columns of one head. -/
def cols (h : Fin 16) (q : FVec Ideal S1024x1024 .bf16) : FVec Ideal S1024x64 .bf16 :=
  extractStridedSlice S1024x64 ![0, h.val * 64] q (slices_head h)

/-- The columns of a head are read at `64 h + d`. -/
theorem cols_at (h : Fin 16) (q : FVec Ideal S1024x1024 .bf16) (r : Fin 1024) (d : Fin 64) :
    cols h q (ix2 r d) = q (ix2 r ⟨h.val * 64 + d.val, by omega⟩) := by
  pointwise [cols]

/-- One head of the kernel: both memories recalled with unnormalized exponentials and scaled by their normalizers. -/
def head (sf sd : FVec Ideal S1024x1 .f32) (q : FVec Ideal S1024x1024 .bf16) (fk dk : FVec Ideal S16x256x64 .bf16)
    (fv dv : FVec Ideal S16x256x65 .bf16) (h : Fin 16) : FVec Ideal S1024x64 .bf16 :=
  k0_pay21 sf sd (cols h q) (slab h fk) (slab h dk) (slab h fv) (slab h dv)

/-- The exponential of a query head's product with a stored key. -/
def expScore (q : FVec Ideal S1024x1024 .bf16) (k : FVec Ideal S16x256x64 .bf16) (h : Fin 16) (r : Fin 1024) (s : Fin 256) : EReal :=
  Ideal.exp (∑ d : Fin 64, q (ix2 r ⟨h.val * 64 + d.val, by omega⟩) * k (ix3 h s d))

/-- A head's entry: over each memory, the sum of exponentials times values, times the scale over the sum of exponentials times the column of ones. -/
theorem head_at (sf sd : FVec Ideal S1024x1 .f32) (q : FVec Ideal S1024x1024 .bf16) (fk dk : FVec Ideal S16x256x64 .bf16)
    (fv dv : FVec Ideal S16x256x65 .bf16) (h : Fin 16) (r : Fin 1024) (d : Fin 64) :
    head sf sd q fk dk fv dv h (ix2 r d)
      = (∑ s : Fin 256, expScore q fk h r s * fv (ix3 h s ⟨d.val, by omega⟩))
          * Ideal.div (sf (ix2 r 0)) (∑ s : Fin 256, expScore q fk h r s * fv (ix3 h s 64))
        + (∑ s : Fin 256, expScore q dk h r s * dv (ix3 h s ⟨d.val, by omega⟩))
          * Ideal.div (sd (ix2 r 0)) (∑ s : Fin 256, expScore q dk h r s * dv (ix3 h s 64)) := by
  pointwise [head, k0_pay21, cols_at, slab, expScore]

/-- A list of pieces of 64 columns read at a column: piece `c / 64` at its column `c % 64`. -/
theorem pieces_at (r j : Fin 1024) : ∀ (L : List (FVec Ideal S1024x64 .bf16))
    (hs : ∀ s ∈ (L.map (Sigma.mk (β := fun s : Shape => s.Idx → EReal) S1024x64)).map (·.1), s.FitsOff S1024x1024 1) (c : ℕ)
    (hc : c < (axisSizes S1024x1024 1 (L.map (Sigma.mk (β := fun s : Shape => s.Idx → EReal) S1024x64))).sum)
    (z : FVec Ideal S1024x64 .bf16) (hz : L[c / 64]? = some z),
    concatenateAt S1024x1024 1 (ix2 r j) (L.map (Sigma.mk (β := fun s : Shape => s.Idx → EReal) S1024x64)) hs c hc
      = z (ix2 r ⟨c % 64, Nat.mod_lt _ (by decide)⟩)
  | [], _, _, _, _, hz => by simp at hz
  | [x], hs, c, hc, z, hz => by
    have h0 : c / 64 = 0 := by
      have := (List.getElem?_eq_some_iff.mp hz).1
      simpa using this
    rw [h0] at hz
    obtain rfl : x = z := by simpa using hz
    refine (concatenateAt_singleton (t := S1024x1024) (s := S1024x64) 1 (ix2 r j) x hs c hc).trans (congrArg x ?_)
    funext b
    refine Fin.ext ?_
    fin_cases b <;> simp [Shape.Idx.norm_def] <;> omega
  | x :: y :: L, hs, c, hc, z, hz => by
    refine (concatenateAt_cons (t := S1024x1024) (s := S1024x64) 1 (ix2 r j) x ⟨S1024x64, y⟩ (L.map (Sigma.mk S1024x64)) hs c hc).trans ?_
    split_ifs with hlt
    · have hc' : c < 64 := hlt
      have h0 : c / 64 = 0 := by omega
      rw [h0] at hz
      obtain rfl : x = z := by simpa using hz
      refine congrArg x ?_
      funext b
      refine Fin.ext ?_
      fin_cases b <;> simp [Shape.Idx.norm_def] <;> omega
    · have hc' : ¬ c < 64 := hlt
      have hd : c / 64 = (c - 64) / 64 + 1 := by omega
      have hm : (⟨c % 64, Nat.mod_lt _ (by decide)⟩ : Fin 64) = ⟨(c - 64) % 64, Nat.mod_lt _ (by decide)⟩ := Fin.ext (by simp; omega)
      rw [hd, List.getElem?_cons_succ] at hz
      rw [hm]
      exact pieces_at r j (y :: L) _ (c - 64) _ z hz

/-- Sixteen pieces of 64 columns side by side. -/
def beside (f : Fin 16 → FVec Ideal S1024x64 .bf16) : FVec Ideal S1024x1024 .bf16 :=
  concatenate S1024x1024 1 ((List.ofFn f).map (Sigma.mk (β := fun s : Shape => s.Idx → EReal) S1024x64))
    concatenates_S1024x64_S1024x64_S1024x64_S1024x64_S1024x64_S1024x64_S1024x64_S1024x64_S1024x64_S1024x64_S1024x64_S1024x64_S1024x64_S1024x64_S1024x64_S1024x64_S1024x1024_d1

/-- Sixteen pieces of 64 columns side by side, given one by one. -/
def join (x0 x1 x2 x3 x4 x5 x6 x7 x8 x9 x10 x11 x12 x13 x14 x15 : FVec Ideal S1024x64 .bf16) : FVec Ideal S1024x1024 .bf16 :=
  concatenate S1024x1024 1 [⟨S1024x64, x0⟩, ⟨S1024x64, x1⟩, ⟨S1024x64, x2⟩, ⟨S1024x64, x3⟩, ⟨S1024x64, x4⟩, ⟨S1024x64, x5⟩, ⟨S1024x64, x6⟩, ⟨S1024x64, x7⟩, ⟨S1024x64, x8⟩, ⟨S1024x64, x9⟩, ⟨S1024x64, x10⟩, ⟨S1024x64, x11⟩, ⟨S1024x64, x12⟩, ⟨S1024x64, x13⟩, ⟨S1024x64, x14⟩, ⟨S1024x64, x15⟩]
    concatenates_S1024x64_S1024x64_S1024x64_S1024x64_S1024x64_S1024x64_S1024x64_S1024x64_S1024x64_S1024x64_S1024x64_S1024x64_S1024x64_S1024x64_S1024x64_S1024x64_S1024x1024_d1

/-- The pieces of a function side by side, one by one. -/
theorem beside_eq (f : Fin 16 → FVec Ideal S1024x64 .bf16) :
    beside f = join (f 0) (f 1) (f 2) (f 3) (f 4) (f 5) (f 6) (f 7) (f 8) (f 9) (f 10) (f 11) (f 12) (f 13) (f 14) (f 15) := rfl

/-- Column `j` of the pieces side by side lies in piece `j / 64`. -/
theorem beside_at (f : Fin 16 → FVec Ideal S1024x64 .bf16) (r j : Fin 1024) :
    beside f (ix2 r j) = f ⟨j.val / 64, by omega⟩ (ix2 r ⟨j.val % 64, by omega⟩) := by
  have h : j.val / 64 < 16 := by omega
  exact (concatenate_apply S1024x1024 1 _ _ (ix2 r j)).trans (pieces_at r j (List.ofFn f) _ _ _ _ (by rw [List.getElem?_ofFn]; exact dif_pos h))

end Cert.KernelIdeal.Body

end
-- ==== Proof.Parts.lean ====
/- The intermediate arrays of the kernel's body, each read at an index. -/
module

public import proofs.«01_k».proof.Proof.Heads

@[expose] public section

set_option maxRecDepth 16384

noncomputable section

namespace Cert.KernelIdeal.Body

open Cert.KernelIdeal Cert.KernelIdeal.Gen Cert.Memory
open Idealize.ShloMosaic Idealize.ShloMosaic.TcCoe Idealize.SL.Sem

/-- A stored key, scaled by the reciprocal of its padded norm. -/
theorem keys_at (x : FVec Ideal S16x256x64 .f32) (h : Fin 16) (s : Fin 256) (d : Fin 64) :
    k0_pay2 (F := Ideal) x (ix3 h s d) = x (ix3 h s d) * invNorm fun k : Fin 64 => x (ix3 h s k) := by
  pointwise [k0_pay2]
  rfl

/-- Both memories' keys are scaled by one function. -/
theorem keys_same (x : FVec Ideal S16x256x64 .f32) : k0_pay3 (F := Ideal) x = k0_pay2 (F := Ideal) x := rfl

/-- Both memories' values are extended by one function. -/
theorem vals_same (y : FVec Ideal S16x256x1 .bf16) (x : FVec Ideal S16x256x64 .f32) : k0_pay6 (F := Ideal) y x = k0_pay5 (F := Ideal) y x := rfl

/-- The stored values, in the first 64 columns. -/
theorem vals_at (x : FVec Ideal S16x256x64 .f32) (h : Fin 16) (s : Fin 256) (d : Fin 64) :
    k0_pay5 (F := Ideal) k0_pay4 x (ix3 h s ⟨d.val, by omega⟩) = x (ix3 h s d) := by
  have hd : d.val < 64 := d.isLt
  pointwise [k0_pay5, k0_pay4]

/-- The column of ones after the stored values. -/
theorem vals_one (x : FVec Ideal S16x256x64 .f32) (h : Fin 16) (s : Fin 256) : k0_pay5 (F := Ideal) k0_pay4 x (ix3 h s 64) = 1 := by
  pointwise [k0_pay5, k0_pay4]

/-- The quotient by 64, rounded down, of a column's number, in words. -/
def headWord (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

/-- The word is the head's number. -/
theorem headWord_eq : ∀ d : Fin 1024, headWord (BitVec.ofNat 32 d.val) = BitVec.ofNat 32 (d.val / 64) := by decide +kernel

/-- Two heads' numbers are compared as words. -/
theorem sameHead : ∀ a b : Fin 16, BitVec.setWidth 32 (IntOp.cmpi CmpIPredicate.eq (BitVec.ofNat 32 a.val) (BitVec.ofNat 32 b.val))
    = if a = b then 1#32 else 0#32 := by decide +kernel

/-- The mask that says which column lies in which head. -/
theorem mask_at (d : Fin 1024) (h : Fin 16) :
    k0_pay8 (F := Ideal) k0_pay7 (ix2 d h) = if (⟨d.val / 64, by omega⟩ : Fin 16) = h then (1 : EReal) else 0 := by
  have e : k0_pay8 (F := Ideal) k0_pay7 (ix2 d h)
      = FloatOps.sitofp FTy.f32 (BitVec.setWidth 32 (IntOp.cmpi CmpIPredicate.eq (headWord (BitVec.ofNat 32 d.val)) (BitVec.ofNat 32 h.val))) := by
    pointwise [k0_pay7, k0_pay8]
    rfl
  rw [e, headWord_eq, sameHead ⟨d.val / 64, by omega⟩ h]
  split_ifs
  · exact (by simp : (((1#32 : BitVec 32).toInt : ℝ) : EReal) = 1)
  · exact (by simp : (((0#32 : BitVec 32).toInt : ℝ) : EReal) = 0)

/-- The share of the fast memory. -/
theorem share_at (x : FVec Ideal S1024x1024 .f32) (w : FVec Ideal S1024x1024 .f32) (b : FVec Ideal S1x1024 .f32) (l : FVec Ideal S1x1 .f32) (r : Fin 1024) :
    k0_pay12 (F := Ideal) x (k0_pay11 (F := Ideal) w) b l (ix2 r 0)
      = Ideal.logistic (l (ix2 0 0) + Ideal.div (∑ j : Fin 1024, Ideal.tanh ((∑ k : Fin 1024, x (ix2 r k) * w (ix2 j k)) + b (ix2 0 j)))
          (Ideal.ofBits .f32 0x44800000#32)) := by
  pointwise [k0_pay12, k0_pay11, k0_pay10]

/-- The confidence. -/
theorem trust_at (x : FVec Ideal S1024x1024 .f32) (w : FVec Ideal S1024x1024 .f32) (b w2 : FVec Ideal S1x1024 .f32) (b2 : FVec Ideal S1x1 .f32) (r : Fin 1024) :
    k0_pay15 (F := Ideal) (k0_pay14 x (k0_pay13 (F := Ideal) w) b) w2 b2 (ix2 r 0)
      = Ideal.logistic ((∑ j : Fin 1024, Ideal.tanh ((∑ k : Fin 1024, x (ix2 r k) * w (ix2 j k)) + b (ix2 0 j)) * w2 (ix2 0 j)) + b2 (ix2 0 0)) := by
  pointwise [k0_pay15, k0_pay14, k0_pay13, k0_pay10]

/-- What scales the fast memory. -/
theorem scaleFast_at (a : FVec Ideal S1024x1 .f32) (y : FVec Ideal S1024x1024 .f32) (w2 : FVec Ideal S1x1024 .f32) (b2 : FVec Ideal S1x1 .f32) (r : Fin 1024) :
    k0_pay16 (F := Ideal) a y w2 b2 (ix2 r 0) = a (ix2 r 0) * k0_pay15 y w2 b2 (ix2 r 0) := by
  pointwise [k0_pay16]

/-- What scales the deep memory. -/
theorem scaleDeep_at (a : FVec Ideal S1024x1 .f32) (y : FVec Ideal S1024x1024 .f32) (w2 : FVec Ideal S1x1024 .f32) (b2 : FVec Ideal S1x1 .f32) (r : Fin 1024) :
    k0_pay17 (F := Ideal) a y w2 b2 (ix2 r 0) = (1 - a (ix2 r 0)) * k0_pay15 y w2 b2 (ix2 r 0) := by
  pointwise [k0_pay17]

/-- The projected query, before it is scaled. -/
def proj (x w : FVec Ideal S1024x1024 .f32) (b : FVec Ideal S1x1024 .f32) (r j : Fin 1024) : EReal :=
  (∑ k : Fin 1024, x (ix2 r k) * w (ix2 j k)) + b (ix2 0 j)

/-- The scaled query in terms of a mask. -/
theorem query_at (x w : FVec Ideal S1024x1024 .f32) (b : FVec Ideal S1x1024 .f32) (u : FVec Ideal S1024x16 .f32) (r j : Fin 1024) :
    k0_pay19 (F := Ideal) (k0_pay9 x) (k0_pay18 (F := Ideal) w) b u u (ix2 r j)
      = proj x w b r j * ∑ h : Fin 16, Ideal.div 1 (Ideal.sqrt (∑ k : Fin 1024, proj x w b r k * proj x w b r k * u (ix2 k h)) + eps) * u (ix2 j h) := by
  pointwise [k0_pay19, k0_pay9, k0_pay18, proj]
  rfl

/-- The last product and its bias. -/
theorem output_at (y : FVec Ideal S1024x1024 .bf16) (w : FVec Ideal S1024x1024 .f32) (b : FVec Ideal S1x1024 .f32) (r j : Fin 1024) :
    k0_pay1 (F := Ideal) y (k0_pay67 (F := Ideal) w) b (ix2 r j) = (∑ k : Fin 1024, y (ix2 r k) * w (ix2 j k)) + b (ix2 0 j) := by
  pointwise [k0_pay1, k0_pay67]

/-- A sum over all columns that the mask restricts to one head is a sum over the head's columns. -/
theorem sum_mask (g : Fin 1024 → EReal) (h : Fin 16) :
    (∑ k : Fin 1024, g k * if (⟨k.val / 64, by omega⟩ : Fin 16) = h then (1 : EReal) else 0)
      = ∑ d : Fin 64, g ⟨h.val * 64 + d.val, by omega⟩ := by
  rw [Fin.sum_univ_tiles 16 64 rfl, Finset.sum_eq_single h]
  · refine Finset.sum_congr rfl fun d _ => ?_
    have hd : (⟨(h.val * 64 + d.val) / 64, by omega⟩ : Fin 16) = h := Fin.ext (by simp; omega)
    rw [if_pos hd, mul_one]
  · intro b _ hb
    refine Finset.sum_eq_zero fun d _ => ?_
    have hd : ¬ (⟨(b.val * 64 + d.val) / 64, by omega⟩ : Fin 16) = h := by
      intro e
      refine hb (Fin.ext ?_)
      have := congrArg Fin.val e
      simp at this
      omega
    rw [if_neg hd, mul_zero]
  · intro h'
    exact absurd (Finset.mem_univ h) h'

/-- The scaled query: each projected column over the padded norm of its head. -/
theorem query_unit (x w : FVec Ideal S1024x1024 .f32) (b : FVec Ideal S1x1024 .f32) (r : Fin 1024) (h : Fin 16) (d : Fin 64) :
    k0_pay19 (F := Ideal) (k0_pay9 x) (k0_pay18 (F := Ideal) w) b (k0_pay8 (F := Ideal) k0_pay7) (k0_pay8 (F := Ideal) k0_pay7) (ix2 r ⟨h.val * 64 + d.val, by omega⟩)
      = proj x w b r ⟨h.val * 64 + d.val, by omega⟩ * invNorm fun k : Fin 64 => proj x w b r ⟨h.val * 64 + k.val, by omega⟩ := by
  rw [query_at]
  simp only [mask_at, mul_ite, mul_one, mul_zero, Finset.sum_ite_eq, Finset.mem_univ, if_true]
  have e : (⟨(h.val * 64 + d.val) / 64, by omega⟩ : Fin 16) = h := Fin.ext (by simp; omega)
  simp only [e]
  have e2 := sum_mask (fun k => proj x w b r k * proj x w b r k) h
  simp only [mul_ite, mul_one, mul_zero] at e2
  rw [e2]
  rfl

end Cert.KernelIdeal.Body

end
-- ==== Proof.Block.lean ====
/- What the kernel's result array holds after the run, as a function of the argument arrays. -/
module

public import proofs.«01_k».proof.Proof.Gen.KernelIdeal.Value
public import proofs.«01_k».proof.Proof.Parts
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

/-- A load of one head after a store of the whole stack. -/
theorem load_slab {κ : Kind} {sp : Space} {w : ℕ} (v : View sig κ sp ⟨3, ![16, 256, w]⟩ .bf16)
    (Z : FVec Ideal ⟨3, ![16, 256, w]⟩ .bf16) (o : ℕ) (inb) (inb') :
    v.readCov (Val := Elt Ideal) [⟨Rect.unit ![0, 0, 0] ![16, 256, w] inb, Z⟩] (Rect.unit ![o, 0, 0] ![1, 256, w] inb').toLoadRect
      = slab ⟨o, by have := inb' 0; simp at this; omega⟩ Z := by
  refine (View.readCov_fill (Val := Elt Ideal) v (s := ⟨3, ![16, 256, w]⟩) inb Z [] _ (fun a => by fin_cases a <;> rfl)).trans ?_
  funext j
  refine congrArg Z (funext fun a => Fin.ext ?_)
  fin_cases a <;> simp [slab]

/-- A load of a whole array after a transfer of the whole array. -/
theorem load_whole {κ : Kind} {sp : Space} (v : View sig κ sp S1024x1024 .f32) (Z : FVec Ideal S1024x1024 .f32) (inb) :
    v.readCov (Val := Elt Ideal) [⟨Rect.whole S1024x1024, Z⟩] (Rect.unit ![0, 0] ![1024, 1024] inb).toLoadRect = Z :=
  View.readCov_cons_unit_lit' (Val := Elt Ideal) v (S := S1024x1024) (off := fun _ => 0) (fun a => by simp) inb Z [] (fun _ => rfl)
    (fun a => by fin_cases a <;> rfl)

/-- The body's whole computation over its operands. -/
def whole (x c : FVec Ideal S1024x1024 .f32) (fk fv dk dv : FVec Ideal S16x256x64 .f32) (bq bg : FVec Ideal S1x1024 .f32)
    (l : FVec Ideal S1x1 .f32) (b1 w2 : FVec Ideal S1x1024 .f32) (b2 : FVec Ideal S1x1 .f32) (bo : FVec Ideal S1x1024 .f32)
    (wq wg w1 wo : FVec Ideal S1024x1024 .f32) : FVec Ideal S1024x1024 .f32 :=
  k0_pay1 (beside (head
      (k0_pay16 (F := Ideal) (k0_pay12 (F := Ideal) c (k0_pay11 (F := Ideal) wg) bg l) (k0_pay14 (F := Ideal) c (k0_pay13 (F := Ideal) w1) b1) w2 b2)
      (k0_pay17 (F := Ideal) (k0_pay12 (F := Ideal) c (k0_pay11 (F := Ideal) wg) bg l) (k0_pay14 (F := Ideal) c (k0_pay13 (F := Ideal) w1) b1) w2 b2)
      (k0_pay19 (F := Ideal) (k0_pay9 x) (k0_pay18 (F := Ideal) wq) bq (k0_pay8 (F := Ideal) k0_pay7) (k0_pay8 (F := Ideal) k0_pay7))
      (k0_pay2 fk) (k0_pay3 dk) (k0_pay5 k0_pay4 fv) (k0_pay6 k0_pay4 dv)))
    (k0_pay67 (F := Ideal) wo) bo

variable (m : (ℓ : Loc nD τ sig) → Buf (Elt Ideal) ℓ)

set_option maxHeartbeats 2000000 in
/-- The result array after the run holds the body's whole computation over the argument arrays. -/
theorem final (c : Dev nD) : (dats m 0 c).arrAt 13 (cfgs 0).N
    = whole (iblk m c 0 t0_0) (iblk m c 1 t0_0) (iblk m c 2 t0_0) (iblk m c 3 t0_0) (iblk m c 4 t0_0) (iblk m c 5 t0_0) (iblk m c 6 t0_0)
      (iblk m c 7 t0_0) (iblk m c 8 t0_0) (iblk m c 9 t0_0) (iblk m c 10 t0_0) (iblk m c 11 t0_0) (iblk m c 12 t0_0)
      (m ((c : Thread nD τ).loc main_arg6)) (m ((c : Thread nD τ).loc main_arg8)) (m ((c : Thread nD τ).loc main_arg11)) (m ((c : Thread nD τ).loc main_arg15)) := by
  refine (dats m 0 c).arrAt_eq_of_after_last 13 t0_0 (by decide +kernel) _ fun j => ?_
  blk_simp
  rw [after0_13]
  unfold outsAt0
  frame_out
  simp only [load_slab, load_whole]
  have h6 : ReadAs.same.apply (View.read (Elt Ideal) (View.whole main_arg6) (V m c main_arg6)) = m ((c : Thread nD τ).loc main_arg6) := V_main_arg6 m c
  have h8 : ReadAs.same.apply (View.read (Elt Ideal) (View.whole main_arg8) (V m c main_arg8)) = m ((c : Thread nD τ).loc main_arg8) := V_main_arg8 m c
  have h11 : ReadAs.same.apply (View.read (Elt Ideal) (View.whole main_arg11) (V m c main_arg11)) = m ((c : Thread nD τ).loc main_arg11) := V_main_arg11 m c
  have h15 : ReadAs.same.apply (View.read (Elt Ideal) (View.whole main_arg15) (V m c main_arg15)) = m ((c : Thread nD τ).loc main_arg15) := V_main_arg15 m c
  rw [h6, h8, h11, h15]
  unfold whole
  simp only [k0_pay20]
  generalize k0_pay16 (F := Ideal) _ _ _ _ = sf
  generalize k0_pay17 (F := Ideal) _ _ _ _ = sd
  generalize k0_pay19 (F := Ideal) _ _ _ _ _ = q
  generalize k0_pay2 (F := Ideal) _ = fk
  generalize k0_pay3 (F := Ideal) _ = dk
  generalize k0_pay5 (F := Ideal) _ _ = fv
  generalize k0_pay6 (F := Ideal) _ _ = dv
  refine congrFun (congrArg (fun y => k0_pay1 y _ _) ?_) j
  rw [beside_eq]
  rfl

end Cert.KernelIdeal.Body

end
-- ==== Proof.Operands.lean ====
/- The operands of the kernel's body, read out of the argument arrays. -/
module

public import proofs.«01_k».proof.Proof.Block
public import Idealize.ShloMosaic.Lib.Pointwise

@[expose] public section

set_option maxRecDepth 16384

noncomputable section

namespace Cert.KernelIdeal.Operand

open Cert.KernelIdeal Cert.KernelIdeal.Gen Idealize.ShloMosaic Idealize.ShloMosaic.TcCoe Idealize.SL.Sem

/-- Every window lies at the origin of its array. -/
theorem idx : ∀ t : Fin cfg0.N, win0_0.index t = ![0, 0]
    ∧ win0_1.index t = ![0, 0]
    ∧ win0_2.index t = ![0, 0, 0]
    ∧ win0_3.index t = ![0, 0, 0]
    ∧ win0_4.index t = ![0, 0, 0]
    ∧ win0_5.index t = ![0, 0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0] :=
  (by decide +kernel : ∀ t : Fin grid0.N, _)

variable (m : (ℓ : Loc nD τ sig) → Buf (Elt Ideal) ℓ) (c : Dev nD)

/-- The query. -/
theorem query : iblk m c 0 t0_0 = m ((c : Thread nD τ).loc main_arg0) := by
  blk_ext! [iblk, V, idx t0_0]

/-- The context. -/
theorem context : iblk m c 1 t0_0 = m ((c : Thread nD τ).loc main_arg1) := by
  blk_ext! [iblk, V, idx t0_0]

/-- The second weight of the confidence. -/
theorem second : iblk m c 10 t0_0 = m ((c : Thread nD τ).loc main_arg13) := by
  blk_ext! [iblk, V, idx t0_0]

/-- The keys of the fast memory, without their axis of extent one. -/
theorem fastKeys (h : Fin 16) (s : Fin 256) (d : Fin 64) :
    iblk m c 2 t0_0 (ix3 h s d) = m ((c : Thread nD τ).loc main_arg2) (ix4 0 h s d) := by
  blk_ext! [iblk, V, idx t0_0]

/-- The values of the fast memory, without their axis of extent one. -/
theorem fastVals (h : Fin 16) (s : Fin 256) (d : Fin 64) :
    iblk m c 3 t0_0 (ix3 h s d) = m ((c : Thread nD τ).loc main_arg3) (ix4 0 h s d) := by
  blk_ext! [iblk, V, idx t0_0]

/-- The keys of the deep memory, without their axis of extent one. -/
theorem deepKeys (h : Fin 16) (s : Fin 256) (d : Fin 64) :
    iblk m c 4 t0_0 (ix3 h s d) = m ((c : Thread nD τ).loc main_arg4) (ix4 0 h s d) := by
  blk_ext! [iblk, V, idx t0_0]

/-- The values of the deep memory, without their axis of extent one. -/
theorem deepVals (h : Fin 16) (s : Fin 256) (d : Fin 64) :
    iblk m c 5 t0_0 (ix3 h s d) = m ((c : Thread nD τ).loc main_arg5) (ix4 0 h s d) := by
  blk_ext! [iblk, V, idx t0_0]

/-- The bias of the query, as a row. -/
theorem queryBias (j : Fin 1024) : iblk m c 6 t0_0 (ix2 0 j) = m ((c : Thread nD τ).loc main_arg7) (ix1 j) := by
  blk_ext! [iblk, V, idx t0_0]

/-- The bias of the gate, as a row. -/
theorem gateBias (j : Fin 1024) : iblk m c 7 t0_0 (ix2 0 j) = m ((c : Thread nD τ).loc main_arg9) (ix1 j) := by
  blk_ext! [iblk, V, idx t0_0]

/-- The first bias of the confidence, as a row. -/
theorem firstBias (j : Fin 1024) : iblk m c 9 t0_0 (ix2 0 j) = m ((c : Thread nD τ).loc main_arg12) (ix1 j) := by
  blk_ext! [iblk, V, idx t0_0]

/-- The bias of the output, as a row. -/
theorem outBias (j : Fin 1024) : iblk m c 12 t0_0 (ix2 0 j) = m ((c : Thread nD τ).loc main_arg16) (ix1 j) := by
  blk_ext! [iblk, V, idx t0_0]

/-- The offset of the gate. -/
theorem offset : iblk m c 8 t0_0 (ix2 0 0) = m ((c : Thread nD τ).loc main_arg10) ix0 := by
  blk_ext! [iblk, V, idx t0_0]

/-- The second bias of the confidence. -/
theorem secondBias : iblk m c 11 t0_0 (ix2 0 0) = m ((c : Thread nD τ).loc main_arg14) (ix1 0) := by
  blk_ext! [iblk, V, idx t0_0]

end Cert.KernelIdeal.Operand

end
-- ==== Proof.Reference.lean ====
/- What the reference computes, stage by stage, each stage read at an index. -/
module

public import proofs.«01_k».proof.Proof.Gen.ReferenceIdeal.Run
public import proofs.«01_k».proof.Proof.Scalar
public import Idealize.ShloMosaic.Lib.Pointwise

@[expose] public section

set_option maxRecDepth 16384

noncomputable section

namespace Cert.ReferenceIdeal.Stage

open Cert.ReferenceIdeal Cert.ReferenceIdeal.Gen Cert.ReferenceIdeal.Value Cert.Memory
open Idealize.ShloMosaic Idealize.ShloMosaic.TcCoe Idealize.SL.Sem Idealize.ShloMosaic.StableHlo

/-- A linear layer with a bias. -/
def linear (x w : FVec Ideal S1024x1024 .f32) (b : FVec Ideal S1024 .f32) : FVec Ideal S1024x1024 .f32 :=
  addf (Host.dotGeneral dot_S1024x1024_S1024x1024_S1024x1024_1_0_0_1_n_n none x
      (transpose S1024x1024 [1, 0] w transposes_S1024x1024_S1024x1024_1_0))
    (broadcastInDim S1024x1024 ![0, 1] bcast_S1x1024_S1024x1024_0_1 (broadcastInDim S1x1024 ![1] bcast_S1024_S1x1024_1 b))

/-- An entry of a linear layer: a row's product with a row of the weight, and the bias. -/
theorem linear_at (x w : FVec Ideal S1024x1024 .f32) (b : FVec Ideal S1024 .f32) (r j : Fin 1024) :
    linear x w b (ix2 r j) = (∑ k : Fin 1024, x (ix2 r k) * w (ix2 j k)) + b (ix1 j) := by
  pointwise [linear]

/-- The rows cut into heads, each head over its padded norm. -/
def unitRows (x : FVec Ideal S1024x1024 .f32) : FVec Ideal S1024x16x64 .f32 :=
  let y : FVec Ideal S1024x16x64 .f32 := shapeCast _ x shapeCasts_S1024x1024_S1024x16x64
  Host.divf y (broadcastInDim S1024x16x64 ![0, 1, 2] bcast_S1024x16x1_S1024x16x64_0_1_2
    (addf (Host.sqrt (broadcastInDim S1024x16x1 ![0, 1] bcast_S1024x16_S1024x16x1_0_1
        (Host.reduceAdd (mulf y y) (constant S_ .f32 0x00000000#32) reducesTo_S1024x16x64_S1024x16_d2 h_S_)))
      (broadcastInDim S1024x16x1 ![] bcast_S_S1024x16x1 (constant S_ .f32 0x322BCC77#32))))

/-- An entry of a head is the row's entry times the reciprocal of the head's padded norm. -/
theorem unitRows_at (x : FVec Ideal S1024x1024 .f32) (r : Fin 1024) (h : Fin 16) (k : Fin 64) :
    unitRows x (ix3 r h k) = x (ix2 r ⟨h.val * 64 + k.val, by omega⟩) * invNorm fun k : Fin 64 => x (ix2 r ⟨h.val * 64 + k.val, by omega⟩) := by
  rw [← div_norm]
  pointwise [unitRows]
  rfl

/-- The stored keys, each over its padded norm. -/
def unitKeys (x : FVec Ideal S1x16x256x64 .f32) : FVec Ideal S16x256x64 .f32 :=
  let y : FVec Ideal S16x256x64 .f32 := shapeCast _ x shapeCasts_S1x16x256x64_S16x256x64
  Host.divf y (broadcastInDim S16x256x64 ![0, 1, 2] bcast_S16x256x1_S16x256x64_0_1_2
    (addf (Host.sqrt (broadcastInDim S16x256x1 ![0, 1] bcast_S16x256_S16x256x1_0_1
        (Host.reduceAdd (mulf y y) (constant S_ .f32 0x00000000#32) reducesTo_S16x256x64_S16x256_d2 h_S_)))
      (broadcastInDim S16x256x1 ![] bcast_S_S16x256x1 (constant S_ .f32 0x322BCC77#32))))

/-- An entry of a key is the stored entry times the reciprocal of the key's padded norm. -/
theorem unitKeys_at (x : FVec Ideal S1x16x256x64 .f32) (h : Fin 16) (s : Fin 256) (k : Fin 64) :
    unitKeys x (ix3 h s k) = x (ix4 0 h s k) * invNorm fun k : Fin 64 => x (ix4 0 h s k) := by
  rw [← div_norm]
  pointwise [unitKeys]
  rfl

/-- The similarity of a query head with a stored key. -/
def scores (k : FVec Ideal S16x256x64 .f32) (q : FVec Ideal S1024x16x64 .f32) : FVec Ideal S1024x16x256 .f32 :=
  mulf (transpose S1024x16x256 [2, 0, 1]
      (Host.dotGeneral dot_S16x256x64_S1024x16x64_S16x256x1024_2_2_1_0_0_1 none k q) transposes_S16x256x1024_S1024x16x256_2_0_1)
    (broadcastInDim S1024x16x256 ![] bcast_S_S1024x16x256 (constant S_ .f32 0x3F800000#32))

/-- A score is the product of a key and a query head; the scale is one. -/
theorem scores_at (k : FVec Ideal S16x256x64 .f32) (q : FVec Ideal S1024x16x64 .f32) (r : Fin 1024) (h : Fin 16) (s : Fin 256) :
    scores k q (ix3 r h s) = ∑ d : Fin 64, k (ix3 h s d) * q (ix3 r h d) := by
  pointwise [scores]

/-- The maximum of the scores over the stored keys. -/
def rowMax (x : FVec Ideal S1024x16x256 .f32) : FVec Ideal S1024x16 .f32 :=
  Host.reduce FloatOps.maximumf x (constant S_ .f32 0xFF800000#32) reducesTo_S1024x16x256_S1024x16_d2 h_S_

/-- The maximum as a fold over the stored keys. -/
theorem rowMax_at (x : FVec Ideal S1024x16x256 .f32) (r : Fin 1024) (h : Fin 16) :
    rowMax x (ix2 r h) = (Finset.univ : Finset (Fin 256)).fold max (Ideal.ofBits .f32 0xFF800000#32) fun s => x (ix3 r h s) := by
  pointwise [rowMax]

/-- The larger of negative infinity and a value. -/
def floored (x : FVec Ideal S1024x16 .f32) : FVec Ideal S1024x16 .f32 :=
  maximumf (broadcastInDim S1024x16 ![] bcast_S_S1024x16 (constant S_ .f32 0xFF800000#32)) x

/-- The larger of negative infinity and a value, at an index. -/
theorem floored_at (x : FVec Ideal S1024x16 .f32) (r : Fin 1024) (h : Fin 16) :
    floored x (ix2 r h) = max (Ideal.ofBits .f32 0xFF800000#32) (x (ix2 r h)) := by
  pointwise [floored]

/-- The exponentials of scores from which one value per head is subtracted. -/
def expLess (x : FVec Ideal S1024x16x256 .f32) (y : FVec Ideal S1024x16 .f32) : FVec Ideal S1024x16x256 .f32 :=
  Host.exp (subf x (broadcastInDim S1024x16x256 ![0, 1, 2] bcast_S1024x16x1_S1024x16x256_0_1_2
    (broadcastInDim S1024x16x1 ![0, 1] bcast_S1024x16_S1024x16x1_0_1 y)))

/-- The exponential of a score less its row's value. -/
theorem expLess_at (x : FVec Ideal S1024x16x256 .f32) (y : FVec Ideal S1024x16 .f32) (r : Fin 1024) (h : Fin 16) (s : Fin 256) :
    expLess x y (ix3 r h s) = Ideal.exp (x (ix3 r h s) - y (ix2 r h)) := by
  pointwise [expLess]

/-- The exponentials of scores that have their maximum subtracted. -/
def shifted (x : FVec Ideal S1024x16x256 .f32) : FVec Ideal S1024x16x256 .f32 := expLess x (floored (rowMax x))

/-- The exponential of a score less its row's maximum. -/
theorem shifted_at (x : FVec Ideal S1024x16x256 .f32) (r : Fin 1024) (h : Fin 16) (s : Fin 256) :
    shifted x (ix3 r h s) = Ideal.exp (x (ix3 r h s) - (Finset.univ : Finset (Fin 256)).fold max ⊥ fun s => x (ix3 r h s)) := by
  rw [shifted, expLess_at, floored_at, rowMax_at, ofBits_neg_inf]
  exact congrArg (fun M : EReal => Ideal.exp (x (ix3 r h s) - M)) (max_eq_right bot_le)

/-- The softmax over the stored keys. -/
def weights (x : FVec Ideal S1024x16x256 .f32) : FVec Ideal S1024x16x256 .f32 :=
  Host.divf (shifted x) (broadcastInDim S1024x16x256 ![0, 1, 2] bcast_S1024x16x1_S1024x16x256_0_1_2
    (broadcastInDim S1024x16x1 ![0, 1] bcast_S1024x16_S1024x16x1_0_1
      (Host.reduceAdd (shifted x) (constant S_ .f32 0x00000000#32) reducesTo_S1024x16x256_S1024x16_d2 h_S_)))

/-- A weight is the shifted exponential over the sum of its row's. -/
theorem weights_at (x : FVec Ideal S1024x16x256 .f32) (r : Fin 1024) (h : Fin 16) (s : Fin 256) :
    weights x (ix3 r h s) = Ideal.div (shifted x (ix3 r h s)) (∑ s : Fin 256, shifted x (ix3 r h s)) := by
  pointwise [weights]

/-- The stored values averaged with the weights, the heads side by side. -/
def recall (v : FVec Ideal S1x16x256x64 .f32) (p : FVec Ideal S1024x16x256 .f32) : FVec Ideal S1024x1024 .f32 :=
  shapeCast _ (transpose S1024x16x64 [2, 0, 1]
      (Host.dotGeneral dot_S16x256x64_S1024x16x256_S16x64x1024_1_2_2_0_0_1 none
        (shapeCast _ v shapeCasts_S1x16x256x64_S16x256x64 : FVec Ideal S16x256x64 .f32) p)
      transposes_S16x64x1024_S1024x16x64_2_0_1) shapeCasts_S1024x16x64_S1024x1024

/-- Column `j` is recalled from head `j / 64`, at the head's column `j % 64`. -/
theorem recall_at (v : FVec Ideal S1x16x256x64 .f32) (p : FVec Ideal S1024x16x256 .f32) (r j : Fin 1024) :
    recall v p (ix2 r j) = ∑ s : Fin 256, v (ix4 0 ⟨j.val / 64, by omega⟩ s ⟨j.val % 64, by omega⟩)
      * p (ix3 r ⟨j.val / 64, by omega⟩ s) := by
  pointwise [recall]

/-- The logistic function of a column, spelt with a quotient. -/
def sigmoid (x : FVec Ideal S1024x1 .f32) : FVec Ideal S1024x1 .f32 :=
  Host.divf (broadcastInDim S1024x1 ![] bcast_S_S1024x1 (constant S_ .f32 0x3F800000#32))
    (addf (broadcastInDim S1024x1 ![] bcast_S_S1024x1 (constant S_ .f32 0x3F800000#32)) (Host.exp (Host.negf x)))

/-- The quotient is the logistic function. -/
theorem sigmoid_at (x : FVec Ideal S1024x1 .f32) (r : Fin 1024) : sigmoid x (ix2 r 0) = Ideal.logistic (x (ix2 r 0)) := by
  pointwise [sigmoid]
  rfl

/-- The share of the fast memory: a logistic function of the mean of a gate and an offset. -/
def share (x w : FVec Ideal S1024x1024 .f32) (b : FVec Ideal S1024 .f32) (l : FVec Ideal S_ .f32) : FVec Ideal S1024x1 .f32 :=
  sigmoid (addf (broadcastInDim S1024x1 ![] bcast_S_S1024x1 l)
    (Host.divf (broadcastInDim S1024x1 ![0] bcast_S1024_S1024x1_0
        (Host.reduceAdd (Host.tanh (linear x w b)) (constant S_ .f32 0x00000000#32) reducesTo_S1024x1024_S1024_d1 h_S_))
      (broadcastInDim S1024x1 ![] bcast_S_S1024x1 (constant S_ .f32 0x44800000#32))))

/-- The share of the fast memory, at a row. -/
theorem share_at (x w : FVec Ideal S1024x1024 .f32) (b : FVec Ideal S1024 .f32) (l : FVec Ideal S_ .f32) (r : Fin 1024) :
    share x w b l (ix2 r 0) = Ideal.logistic (l ix0 + Ideal.div (∑ j : Fin 1024, Ideal.tanh (linear x w b (ix2 r j)))
      (Ideal.ofBits .f32 0x44800000#32)) := by
  rw [share, sigmoid_at]
  pointwise []

/-- The confidence: a logistic function of a two-layer perceptron. -/
def trust (x w : FVec Ideal S1024x1024 .f32) (b : FVec Ideal S1024 .f32) (w2 : FVec Ideal S1x1024 .f32) (b2 : FVec Ideal S1 .f32) :
    FVec Ideal S1024x1 .f32 :=
  sigmoid (addf (Host.dotGeneral dot_S1024x1024_S1024x1_S1024x1_1_0_0_1_n_n none (Host.tanh (linear x w b))
      (transpose S1024x1 [1, 0] w2 transposes_S1x1024_S1024x1_1_0))
    (broadcastInDim S1024x1 ![0, 1] bcast_S1x1_S1024x1_0_1 (broadcastInDim S1x1 ![1] bcast_S1_S1x1_1 b2)))

/-- The confidence, at a row. -/
theorem trust_at (x w : FVec Ideal S1024x1024 .f32) (b : FVec Ideal S1024 .f32) (w2 : FVec Ideal S1x1024 .f32)
    (b2 : FVec Ideal S1 .f32) (r : Fin 1024) :
    trust x w b w2 b2 (ix2 r 0) = Ideal.logistic ((∑ j : Fin 1024, Ideal.tanh (linear x w b (ix2 r j)) * w2 (ix2 0 j)) + b2 (ix1 0)) := by
  rw [trust, sigmoid_at]
  pointwise []

/-- The two recalled memories mixed and scaled by the confidence. -/
def blend (a t : FVec Ideal S1024x1 .f32) (f d : FVec Ideal S1024x1024 .f32) : FVec Ideal S1024x1024 .f32 :=
  mulf (addf (mulf (broadcastInDim S1024x1024 ![0, 1] bcast_S1024x1_S1024x1024_0_1 a) f)
      (mulf (broadcastInDim S1024x1024 ![0, 1] bcast_S1024x1_S1024x1024_0_1
        (subf (broadcastInDim S1024x1 ![] bcast_S_S1024x1 (constant S_ .f32 0x3F800000#32)) a)) d))
    (broadcastInDim S1024x1024 ![0, 1] bcast_S1024x1_S1024x1024_0_1 t)

/-- The mixed and scaled recall, at an index. -/
theorem blend_at (a t : FVec Ideal S1024x1 .f32) (f d : FVec Ideal S1024x1024 .f32) (r j : Fin 1024) :
    blend a t f d (ix2 r j) = (a (ix2 r 0) * f (ix2 r j) + (1 - a (ix2 r 0)) * d (ix2 r j)) * t (ix2 r 0) := by
  pointwise [blend]

/-- The whole result of the reference over the argument arrays, as its stages. -/
def total (x c : FVec Ideal S1024x1024 .f32) (fk fv dk dv : FVec Ideal S1x16x256x64 .f32) (wq : FVec Ideal S1024x1024 .f32)
    (bq : FVec Ideal S1024 .f32) (wg : FVec Ideal S1024x1024 .f32) (bg : FVec Ideal S1024 .f32) (l : FVec Ideal S_ .f32)
    (w1 : FVec Ideal S1024x1024 .f32) (b1 : FVec Ideal S1024 .f32) (w2 : FVec Ideal S1x1024 .f32) (b2 : FVec Ideal S1 .f32)
    (wo : FVec Ideal S1024x1024 .f32) (bo : FVec Ideal S1024 .f32) : FVec Ideal S1024x1024 .f32 :=
  let q := unitRows (linear x wq bq)
  linear
    (blend (share c wg bg l) (trust c w1 b1 w2 b2)
      (recall fv (weights (scores (unitKeys fk) q)))
      (recall dv (weights (scores (unitKeys dk) q))))
    wo bo

/-- The reference's run ends at its stages. -/
theorem result_eq (m : (ℓ : Loc nD τ sig) → Buf (Elt Ideal) ℓ) (c : Dev nD) : res_main_v111 (F := Ideal) m c
    = total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold res_main_v111
  rfl

end Cert.ReferenceIdeal.Stage

end
-- ==== Proof.Equation.lean ====
/- The kernel's array and the reference's array are one function of the arguments. -/
module

public import proofs.«01_k».proof.Proof.Block
public import proofs.«01_k».proof.Proof.Reference

@[expose] public section

set_option maxRecDepth 16384

noncomputable section

namespace Cert.Memory

open Cert.KernelIdeal.Body Idealize.ShloMosaic Idealize.ShloMosaic.TcCoe Idealize.SL.Sem
open Cert.KernelIdeal (S1024x1024 S16x256x64 S1x1024 S1x1)
open Cert.KernelIdeal.Gen
open Cert.ReferenceIdeal (S1x16x256x64 S1024 S1 S_)
open Cert.ReferenceIdeal.Stage (linear linear_at unitRows unitRows_at unitKeys unitKeys_at scores scores_at shifted_at weights weights_at
  recall recall_at share trust blend blend_at total)

/-- The products of a vector over its padded norm with the rows of a matrix over theirs are reals. -/
theorem scores_real {n k : ℕ} (x : Fin k → EReal) (y : Fin n → Fin k → EReal) :
    ∃ s : Fin n → ℝ, ∀ i, (∑ d, x d * invNorm x * (y i d * invNorm (y i))) = (s i : EReal) := by
  choose a ha using normalized_real x
  choose b hb using fun i => normalized_real (y i)
  refine ⟨fun i => ∑ d, a d * b i d, fun i => ?_⟩
  rw [coe_sum]
  exact Finset.sum_congr rfl fun d _ => by rw [ha, hb, EReal.coe_mul]

/-- One memory at one row and column: the kernel's unnormalized sum times the reciprocal of its normalizer is the reference's
    softmax-weighted mean. The normalizer is a positive real, whatever the arguments are. -/
theorem memory (x w : FVec Ideal S1024x1024 .f32) (b' : FVec Ideal S1x1024 .f32) (b : FVec Ideal S1024 .f32)
    (k' v' : FVec Ideal S16x256x64 .f32) (k v : FVec Ideal S1x16x256x64 .f32)
    (hb : ∀ j : Fin 1024, b' (ix2 0 j) = b (ix1 j))
    (hk : ∀ (h : Fin 16) (s : Fin 256) (d : Fin 64), k' (ix3 h s d) = k (ix4 0 h s d))
    (hv : ∀ (h : Fin 16) (s : Fin 256) (d : Fin 64), v' (ix3 h s d) = v (ix4 0 h s d)) (r j : Fin 1024) :
    ∃ z : ℝ, ∃ A : EReal,
      (∑ s : Fin 256, expScore (k0_pay19 (F := Ideal) (k0_pay9 x) (k0_pay18 (F := Ideal) w) b' (k0_pay8 (F := Ideal) k0_pay7) (k0_pay8 (F := Ideal) k0_pay7))
          (k0_pay2 (F := Ideal) k') ⟨j.val / 64, by omega⟩ r s * k0_pay5 (F := Ideal) k0_pay4 v' (ix3 ⟨j.val / 64, by omega⟩ s ⟨j.val % 64, by omega⟩)) = A
      ∧ (∀ t : EReal, Ideal.div t (∑ s : Fin 256, expScore (k0_pay19 (F := Ideal) (k0_pay9 x) (k0_pay18 (F := Ideal) w) b' (k0_pay8 (F := Ideal) k0_pay7) (k0_pay8 (F := Ideal) k0_pay7))
          (k0_pay2 (F := Ideal) k') ⟨j.val / 64, by omega⟩ r s * k0_pay5 (F := Ideal) k0_pay4 v' (ix3 ⟨j.val / 64, by omega⟩ s 64)) = t * (z : EReal))
      ∧ recall v (weights (scores (unitKeys k) (unitRows (linear x w b)))) (ix2 r j) = (z : EReal) * A := by
  generalize hh : (⟨j.val / 64, by omega⟩ : Fin 16) = h
  have hp : ∀ c : Fin 1024, proj x w b' r c = linear x w b (ix2 r c) := fun c => by rw [linear_at, proj, hb]
  obtain ⟨s, hs⟩ := scores_real (fun d : Fin 64 => proj x w b' r ⟨h.val * 64 + d.val, by omega⟩) (fun (i : Fin 256) (d : Fin 64) => k' (ix3 h i d))
  have he : ∀ i : Fin 256, expScore (k0_pay19 (F := Ideal) (k0_pay9 x) (k0_pay18 (F := Ideal) w) b' (k0_pay8 (F := Ideal) k0_pay7) (k0_pay8 (F := Ideal) k0_pay7))
      (k0_pay2 (F := Ideal) k') h r i = Ideal.exp (s i : EReal) := fun i => by
    rw [expScore, ← hs]
    exact congrArg Ideal.exp (Finset.sum_congr rfl fun d _ => by rw [query_unit, keys_at])
  have hsc : ∀ i : Fin 256, scores (unitKeys k) (unitRows (linear x w b)) (ix3 r h i) = (s i : EReal) := fun i => by
    rw [scores_at, ← hs]
    refine Finset.sum_congr rfl fun d _ => ?_
    rw [unitKeys_at, unitRows_at, mul_comm]
    simp only [hp, hk]
  have hZ : 0 < ∑ i, Real.exp (s i) := Finset.sum_pos (fun i _ => Real.exp_pos _) Finset.univ_nonempty
  obtain ⟨M, hM⟩ := fold_max_real (by decide) s
  have hval : ∀ i : Fin 256, k0_pay5 (F := Ideal) k0_pay4 v' (ix3 h i ⟨j.val % 64, by omega⟩) = v (ix4 0 h i ⟨j.val % 64, by omega⟩) :=
    fun i => (vals_at v' h i ⟨j.val % 64, by omega⟩).trans (hv h i _)
  refine ⟨1 / ∑ i, Real.exp (s i), _, rfl, fun t => ?_, ?_⟩
  · simp only [he, vals_one, mul_one]
    rw [sum_exp, Ideal.div_coe hZ.ne']
  · rw [recall_at, hh]
    simp only [weights_at, shifted_at, hsc, hM, he, hval]
    exact softmax_mean (by decide) s (fun i => v (ix4 0 h i ⟨j.val % 64, by omega⟩)) M

/-- Two memories that are mixed and scaled as a whole, or each with its factor: the factors are reals that are not negative. -/
theorem mixed {a t : ℝ} (ha : 0 ≤ a) (ha' : a ≤ 1) (ht : 0 ≤ t) (z y : ℝ) (A B : EReal) :
    A * ((a : EReal) * (t : EReal) * (z : EReal)) + B * ((1 - (a : EReal)) * (t : EReal) * (y : EReal))
      = ((a : EReal) * ((z : EReal) * A) + (1 - (a : EReal)) * ((y : EReal) * B)) * (t : EReal) := by
  rw [mul_comm (_ + _) (t : EReal), EReal.left_distrib_of_nonneg_of_ne_top (by exact_mod_cast ht) (EReal.coe_ne_top t)]
  congr 1 <;> ac_rfl

/-- The kernel's whole computation is the reference's, at every row and column. -/
theorem equation (x c : FVec Ideal S1024x1024 .f32) (fk' fv' dk' dv' : FVec Ideal S16x256x64 .f32) (fk fv dk dv : FVec Ideal S1x16x256x64 .f32)
    (bq' bg' : FVec Ideal S1x1024 .f32) (bq bg : FVec Ideal S1024 .f32) (l' : FVec Ideal S1x1 .f32) (l : FVec Ideal S_ .f32)
    (b1' w2 : FVec Ideal S1x1024 .f32) (b1 : FVec Ideal S1024 .f32) (b2' : FVec Ideal S1x1 .f32) (b2 : FVec Ideal S1 .f32)
    (bo' : FVec Ideal S1x1024 .f32) (bo : FVec Ideal S1024 .f32) (wq wg w1 wo : FVec Ideal S1024x1024 .f32)
    (hfk : ∀ (h : Fin 16) (s : Fin 256) (d : Fin 64), fk' (ix3 h s d) = fk (ix4 0 h s d))
    (hfv : ∀ (h : Fin 16) (s : Fin 256) (d : Fin 64), fv' (ix3 h s d) = fv (ix4 0 h s d))
    (hdk : ∀ (h : Fin 16) (s : Fin 256) (d : Fin 64), dk' (ix3 h s d) = dk (ix4 0 h s d))
    (hdv : ∀ (h : Fin 16) (s : Fin 256) (d : Fin 64), dv' (ix3 h s d) = dv (ix4 0 h s d))
    (hbq : ∀ j : Fin 1024, bq' (ix2 0 j) = bq (ix1 j)) (hbg : ∀ j : Fin 1024, bg' (ix2 0 j) = bg (ix1 j))
    (hb1 : ∀ j : Fin 1024, b1' (ix2 0 j) = b1 (ix1 j)) (hbo : ∀ j : Fin 1024, bo' (ix2 0 j) = bo (ix1 j))
    (hl : l' (ix2 0 0) = l ix0) (hb2 : b2' (ix2 0 0) = b2 (ix1 0)) :
    whole x c fk' fv' dk' dv' bq' bg' l' b1' w2 b2' bo' wq wg w1 wo
      = total x c fk fv dk dv wq bq wg bg l w1 b1 w2 b2 wo bo := by
  funext i
  obtain ⟨r, j, rfl⟩ : ∃ (r : Fin 1024) (j : Fin 1024), i = ix2 r j := ⟨i 0, i 1, eq_ix2 i⟩
  rw [whole, total, output_at, linear_at, hbo]
  refine congrArg (· + bo (ix1 j)) (Finset.sum_congr rfl fun k _ => congrArg (· * wo (ix2 j k)) ?_)
  rw [beside_at, head_at, blend_at, scaleFast_at, scaleDeep_at, keys_same, vals_same]
  have hshare : k0_pay12 (F := Ideal) c (k0_pay11 (F := Ideal) wg) bg' l' (ix2 r 0) = share c wg bg l (ix2 r 0) := by
    rw [Cert.KernelIdeal.Body.share_at, Cert.ReferenceIdeal.Stage.share_at, hl]
    simp only [linear_at, hbg]
  have htrust : k0_pay15 (F := Ideal) (k0_pay14 (F := Ideal) c (k0_pay13 (F := Ideal) w1) b1') w2 b2' (ix2 r 0) = trust c w1 b1 w2 b2 (ix2 r 0) := by
    rw [Cert.KernelIdeal.Body.trust_at, Cert.ReferenceIdeal.Stage.trust_at, hb2]
    simp only [linear_at, hb1]
  obtain ⟨a, ha, ha', hae⟩ : ∃ a : ℝ, 0 ≤ a ∧ a ≤ 1 ∧ share c wg bg l (ix2 r 0) = (a : EReal) := by
    rw [Cert.ReferenceIdeal.Stage.share_at]
    exact logistic_unit _
  obtain ⟨t, ht, -, hte⟩ : ∃ t : ℝ, 0 ≤ t ∧ t ≤ 1 ∧ trust c w1 b1 w2 b2 (ix2 r 0) = (t : EReal) := by
    rw [Cert.ReferenceIdeal.Stage.trust_at]
    exact logistic_unit _
  obtain ⟨z, A, hA, hz, hf⟩ := memory x wq bq' bq fk' fv' fk fv hbq hfk hfv r k
  obtain ⟨y, B, hB, hy, hd⟩ := memory x wq bq' bq dk' dv' dk dv hbq hdk hdv r k
  rw [hf, hd, hshare, htrust, hae, hte, hz, hy]
  refine Eq.trans ?_ (mixed ha ha' ht z y A B)
  rw [← hA, ← hB]

end Cert.Memory

end
-- ==== Proof.lean ====
/- The proof of the five claims: the three programs run to their end with their arguments unchanged, the program read
   over the extended reals is the kernel's own, and its result is the reference's at every argument. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Operands
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The kernel's run ends, its arguments unchanged and every semaphore's counter at zero. -/
theorem frame_kernel : Cert.quiescent_Kernel := fun m ρ _ => Cert.Kernel.Gen.frame m ρ

/-- The same over the extended reals. -/
theorem frame_ideal : Cert.quiescent_KernelIdeal := fun m ρ _ => Cert.KernelIdeal.Gen.frame m ρ

/-- The reference's run ends, its arguments unchanged; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- No operation of the kernel was replaced. -/
theorem preserves : Cert.preserves_Kernel_KernelIdeal := trivial

/-- Over the extended reals the kernel's result array is the reference's, whatever the arguments hold. -/
theorem algebraic : Cert.algebraic_KernelIdeal_ReferenceIdeal := by
  intro m ρ m' ρ' _ hag
  refine ⟨fun c => (Cert.KernelIdeal.Gen.dats m 0 c).arrAt 13 Cert.KernelIdeal.cfg0.N, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8, h9, h10, h11, h12, h13, h14, h15, h16⟩ := hag c
  refine (Cert.ReferenceIdeal.Stage.result_eq m' c).trans ?_
  rw [h0, h1, h2, h3, h4, h5, h6, h7, h8, h9, h10, h11, h12, h13, h14, h15, h16]
  refine Eq.symm ((Cert.KernelIdeal.Body.final m c).trans ?_)
  rw [Cert.KernelIdeal.Operand.query, Cert.KernelIdeal.Operand.context, Cert.KernelIdeal.Operand.second]
  exact Cert.Memory.equation (hfk := Cert.KernelIdeal.Operand.fastKeys m c) (hfv := Cert.KernelIdeal.Operand.fastVals m c)
    (hdk := Cert.KernelIdeal.Operand.deepKeys m c) (hdv := Cert.KernelIdeal.Operand.deepVals m c)
    (hbq := Cert.KernelIdeal.Operand.queryBias m c) (hbg := Cert.KernelIdeal.Operand.gateBias m c)
    (hb1 := Cert.KernelIdeal.Operand.firstBias m c) (hbo := Cert.KernelIdeal.Operand.outBias m c)
    (hl := Cert.KernelIdeal.Operand.offset m c) (hb2 := Cert.KernelIdeal.Operand.secondBias m c) ..

/-- The five claims. -/
theorem claim : Cert.Claim := ⟨Cert.Kernel.Gen.facts, Cert.KernelIdeal.Gen.facts, Cert.ReferenceIdeal.Gen.facts,
  frame_kernel, frame_ideal, frame_reference, preserves, algebraic⟩

end Cert.Proof

end
